-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_without_bias [hPre_finite_without_bias : Cert.Pre_finite_without_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_without_bias [hPre_finite_without_bias : Cert.Pre_finite_without_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_without_bias [hKernelIdeal : Cert.KernelIdeal.Facts] [hPre_finite_without_bias : Cert.Pre_finite_without_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_without_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_without_bias [hReferenceIdeal : Cert.ReferenceIdeal.Facts] [hPre_finite_without_bias : Cert.Pre_finite_without_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_without_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_without_bias [hKernelIdeal : Cert.KernelIdeal.Facts] [hReferenceIdeal : Cert.ReferenceIdeal.Facts] [hPre_finite_without_bias : Cert.Pre_finite_without_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_without_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_without_bias : Cert.Pre_finite_without_bias.Facts),
    quiescent_Kernel (hKernel := hKernel)
    ∧ quiescent_KernelIdeal (hKernelIdeal := hKernelIdeal)
    ∧ quiescent_KernelIdeal_pre_finite_without_bias (hKernelIdeal := hKernelIdeal) (hPre_finite_without_bias := hPre_finite_without_bias)
    ∧ quiescent_ReferenceIdeal (hReferenceIdeal := hReferenceIdeal)
    ∧ quiescent_ReferenceIdeal_pre_finite_without_bias (hReferenceIdeal := hReferenceIdeal) (hPre_finite_without_bias := hPre_finite_without_bias)
    ∧ preserves_Kernel_KernelIdeal
    ∧ algebraic_KernelIdeal_ReferenceIdeal_pre_finite_without_bias (hKernelIdeal := hKernelIdeal) (hReferenceIdeal := hReferenceIdeal) (hPre_finite_without_bias := hPre_finite_without_bias)
-- ==== Pre_finite_without_bias.lean ====
abbrev S8x96x128x128 : Shape := ⟨4, ![8, 96, 128, 128]⟩
abbrev S8x96x96 : Shape := ⟨3, ![8, 96, 96]⟩
abbrev S96x96 : Shape := ⟨2, ![96, 96]⟩
abbrev S96 : Shape := ⟨1, ![96]⟩
abbrev S_ : Shape := ⟨0, ![]⟩

class Facts : Prop where
  bcast_S_S8x96x128x128 : S_.BroadcastsInDim S8x96x128x128 (![] : Fin 0 → Fin S8x96x128x128.rank)
  reducesTo_S8x96x128x128_S_d0_1_2_3 : S8x96x128x128.ReducesTo [0, 1, 2, 3] S_
  h_S_ : 0 < S_.numel
  bcast_S_S8x96x96 : S_.BroadcastsInDim S8x96x96 (![] : Fin 0 → Fin S8x96x96.rank)
  reducesTo_S8x96x96_S_d0_1_2 : S8x96x96.ReducesTo [0, 1, 2] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part3 {F : FTy → Type} [FloatOps F] (main_arg11 : FVec F S96 .f32) (main_arg12 : FVec F S96 .f32) (main_arg13 : FVec F S96 .f32) (main_v49 : IVec S_ 1) : IVec S_ 1 :=
  let main_v50 : FVec F S96 .f32 := Host.absf main_arg12
  let main_cst_20 : FVec F S_ .f32 := constant S_ .f32 0x7F800000#32
  let main_v51 : FVec F S96 .f32 := broadcastInDim S96 ![] bcast_S_S96 main_cst_20
  let main_v52 : IVec S96 1 := cmpf .olt main_v50 main_v51
  let main_c_21 : IVec S_ 1 := constantI S_ 1 1#1
  let main_v53 : IVec S_ 1 := (fun x v => Host.reduce IntOp.andi x v reducesTo_S96_S_d0 h_S_) main_v52 main_c_21
  let main_v54 : IVec S_ 1 := andi main_v49 main_v53
  let main_cst_22 : FVec F S_ .f32 := constant S_ .f32 0x00000000#32
  let main_v55 : FVec F S96 .f32 := broadcastInDim S96 ![] bcast_S_S96 main_cst_22
  let main_v56 : IVec S96 1 := cmpf .oeq main_arg11 main_v55
  let main_c_23 : IVec S_ 1 := constantI S_ 1 1#1
  let main_v57 : IVec S_ 1 := (fun x v => Host.reduce IntOp.andi x v reducesTo_S96_S_d0 h_S_) main_v56 main_c_23
  let main_v58 : IVec S_ 1 := andi main_v54 main_v57
  let main_cst_24 : FVec F S_ .f32 := constant S_ .f32 0x00000000#32
  let main_v59 : FVec F S96 .f32 := broadcastInDim S96 ![] bcast_S_S96 main_cst_24
  let main_v60 : IVec S96 1 := cmpf .oeq main_arg13 main_v59
  let main_c_25 : IVec S_ 1 := constantI S_ 1 1#1
  let main_v61 : IVec S_ 1 := (fun x v => Host.reduce IntOp.andi x v reducesTo_S96_S_d0 h_S_) main_v60 main_c_25
  let main_v62 : IVec S_ 1 := andi main_v58 main_v61
  main_v62

def fn_part2 {F : FTy → Type} [FloatOps F] (main_arg7 : FVec F S96 .f32) (main_arg9 : FVec F S96 .f32) (main_arg10 : FVec F S96x96 .f32) (main_arg11 : FVec F S96 .f32) (main_arg12 : FVec F S96 .f32) (main_arg13 : FVec F S96 .f32) (main_v31 : IVec S_ 1) (main_v32 : FVec F S96 .f32) (main_cst_12 : FVec F S_ .f32) : IVec S_ 1 :=
  let main_v33 : FVec F S96 .f32 := broadcastInDim S96 ![] bcast_S_S96 main_cst_12
  let main_v34 : IVec S96 1 := cmpf .olt main_v32 main_v33
  let main_c_13 : IVec S_ 1 := constantI S_ 1 1#1
  let main_v35 : IVec S_ 1 := (fun x v => Host.reduce IntOp.andi x v reducesTo_S96_S_d0 h_S_) main_v34 main_c_13
  let main_v36 : IVec S_ 1 := andi main_v31 main_v35
  let main_cst_14 : FVec F S_ .f32 := constant S_ .f32 0x00000000#32
  let main_v37 : FVec F S96 .f32 := broadcastInDim S96 ![] bcast_S_S96 main_cst_14
  let main_v38 : IVec S96 1 := cmpf .oeq main_arg7 main_v37
  let main_c_15 : IVec S_ 1 := constantI S_ 1 1#1
  let main_v39 : IVec S_ 1 := (fun x v => Host.reduce IntOp.andi x v reducesTo_S96_S_d0 h_S_) main_v38 main_c_15
  let main_v40 : IVec S_ 1 := andi main_v36 main_v39
  let main_cst_16 : FVec F S_ .f32 := constant S_ .f32 0x00000000#32
  let main_v41 : FVec F S96 .f32 := broadcastInDim S96 ![] bcast_S_S96 main_cst_16
  let main_v42 : IVec S96 1 := cmpf .oeq main_arg9 main_v41
  let main_c_17 : IVec S_ 1 := constantI S_ 1 1#1
  let main_v43 : IVec S_ 1 := (fun x v => Host.reduce IntOp.andi x v reducesTo_S96_S_d0 h_S_) main_v42 main_c_17
  let main_v44 : IVec S_ 1 := andi main_v40 main_v43
  let main_v45 : FVec F S96x96 .f32 := Host.absf main_arg10
  let main_cst_18 : FVec F S_ .f32 := constant S_ .f32 0x7F800000#32
  let main_v46 : FVec F S96x96 .f32 := broadcastInDim S96x96 ![] bcast_S_S96x96 main_cst_18
  let main_v47 : IVec S96x96 1 := cmpf .olt main_v45 main_v46
  let main_c_19 : IVec S_ 1 := constantI S_ 1 1#1
  let main_v48 : IVec S_ 1 := (fun x v => Host.reduce IntOp.andi x v reducesTo_S96x96_S_d0_1 h_S_) main_v47 main_c_19
  let main_v49 : IVec S_ 1 := andi main_v44 main_v48
  fn_part3 (F := F) main_arg11 main_arg12 main_arg13 main_v49

def fn_part1 {F : FTy → Type} [FloatOps F] (main_arg3 : FVec F S96 .f32) (main_arg5 : FVec F S96 .f32) (main_arg6 : FVec F S96x96 .f32) (main_arg7 : FVec F S96 .f32) (main_arg8 : FVec F S96 .f32) (main_arg9 : FVec F S96 .f32) (main_arg10 : FVec F S96x96 .f32) (main_arg11 : FVec F S96 .f32) (main_arg12 : FVec F S96 .f32) (main_arg13 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_cst_6 : FVec F S_ .f32 := constant S_ .f32 0x00000000#32
  let main_v19 : FVec F S96 .f32 := broadcastInDim S96 ![] bcast_S_S96 main_cst_6
  let main_v20 : IVec S96 1 := cmpf .oeq main_arg3 main_v19
  let main_c_7 : IVec S_ 1 := constantI S_ 1 1#1
  let main_v21 : IVec S_ 1 := (fun x v => Host.reduce IntOp.andi x v reducesTo_S96_S_d0 h_S_) main_v20 main_c_7
  let main_v22 : IVec S_ 1 := andi main_v18 main_v21
  let main_cst_8 : FVec F S_ .f32 := constant S_ .f32 0x00000000#32
  let main_v23 : FVec F S96 .f32 := broadcastInDim S96 ![] bcast_S_S96 main_cst_8
  let main_v24 : IVec S96 1 := cmpf .oeq main_arg5 main_v23
  let main_c_9 : IVec S_ 1 := constantI S_ 1 1#1
  let main_v25 : IVec S_ 1 := (fun x v => Host.reduce IntOp.andi x v reducesTo_S96_S_d0 h_S_) main_v24 main_c_9
  let main_v26 : IVec S_ 1 := andi main_v22 main_v25
  let main_v27 : FVec F S96x96 .f32 := Host.absf main_arg6
  let main_cst_10 : FVec F S_ .f32 := constant S_ .f32 0x7F800000#32
  let main_v28 : FVec F S96x96 .f32 := broadcastInDim S96x96 ![] bcast_S_S96x96 main_cst_10
  let main_v29 : IVec S96x96 1 := cmpf .olt main_v27 main_v28
  let main_c_11 : IVec S_ 1 := constantI S_ 1 1#1
  let main_v30 : IVec S_ 1 := (fun x v => Host.reduce IntOp.andi x v reducesTo_S96x96_S_d0_1 h_S_) main_v29 main_c_11
  let main_v31 : IVec S_ 1 := andi main_v26 main_v30
  let main_v32 : FVec F S96 .f32 := Host.absf main_arg8
  let main_cst_12 : FVec F S_ .f32 := constant S_ .f32 0x7F800000#32
  fn_part2 (F := F) main_arg7 main_arg9 main_arg10 main_arg11 main_arg12 main_arg13 main_v31 main_v32 main_cst_12

def fn {F : FTy → Type} [FloatOps F] (main_arg0 : FVec F S8x96x128x128 .f32) (main_arg1 : FVec F S8x96x96 .f32) (main_arg2 : FVec F S96x96 .f32) (main_arg3 : FVec F S96 .f32) (main_arg4 : FVec F S96 .f32) (main_arg5 : FVec F S96 .f32) (main_arg6 : FVec F S96x96 .f32) (main_arg7 : FVec F S96 .f32) (main_arg8 : FVec F S96 .f32) (main_arg9 : FVec F S96 .f32) (main_arg10 : FVec F S96x96 .f32) (main_arg11 : FVec F S96 .f32) (main_arg12 : FVec F S96 .f32) (main_arg13 : FVec F S96 .f32) : IVec S_ 1 :=
  let main_v0 : FVec F S8x96x128x128 .f32 := Host.absf main_arg0
  let main_cst : FVec F S_ .f32 := constant S_ .f32 0x7F800000#32
  let main_v1 : FVec F S8x96x128x128 .f32 := broadcastInDim S8x96x128x128 ![] bcast_S_S8x96x128x128 main_cst
  let main_v2 : IVec S8x96x128x128 1 := cmpf .olt main_v0 main_v1
  let main_c : IVec S_ 1 := constantI S_ 1 1#1
  let main_v3 : IVec S_ 1 := (fun x v => Host.reduce IntOp.andi x v reducesTo_S8x96x128x128_S_d0_1_2_3 h_S_) main_v2 main_c
  let main_v4 : FVec F S8x96x96 .f32 := Host.absf main_arg1
  let main_cst_0 : FVec F S_ .f32 := constant S_ .f32 0x7F800000#32
  let main_v5 : FVec F S8x96x96 .f32 := broadcastInDim S8x96x96 ![] bcast_S_S8x96x96 main_cst_0
  let main_v6 : IVec S8x96x96 1 := cmpf .olt main_v4 main_v5
  let main_c_1 : IVec S_ 1 := constantI S_ 1 1#1
  let main_v7 : IVec S_ 1 := (fun x v => Host.reduce IntOp.andi x v reducesTo_S8x96x96_S_d0_1_2 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg3 main_arg5 main_arg6 main_arg7 main_arg8 main_arg9 main_arg10 main_arg11 main_arg12 main_arg13 main_v13 main_v16
-- ==== Kernel.lean ====
abbrev S8x96x128x128 : Shape := ⟨4, ![8, 96, 128, 128]⟩
abbrev S8x96x96 : Shape := ⟨3, ![8, 96, 96]⟩
abbrev S96x96 : Shape := ⟨2, ![96, 96]⟩
abbrev S96 : Shape := ⟨1, ![96]⟩
abbrev S_ : Shape := ⟨0, ![]⟩
abbrev S96x1 : Shape := ⟨2, ![96, 1]⟩
abbrev S1x96x64x128 : Shape := ⟨4, ![1, 96, 64, 128]⟩
abbrev S1x96x96 : Shape := ⟨3, ![1, 96, 96]⟩
abbrev S96x64x128 : Shape := ⟨3, ![96, 64, 128]⟩
abbrev S96x8192 : Shape := ⟨2, ![96, 8192]⟩

abbrev nBuf : Space → Nat
  | .hbm => 39
  | .vmem => 13
  | .smem => 0
  | _ => 0

abbrev bufTy : (tb : Table) → Fin (tcTables nBuf tb) → BufTy
  | .hbm, ⟨0, _⟩ => ⟨S8x96x128x128, .f32⟩
  | .hbm, ⟨1, _⟩ => ⟨S8x96x96, .f32⟩
  | .hbm, ⟨2, _⟩ => ⟨S96x96, .f32⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S96x96, .f32⟩
  | .hbm, ⟨11, _⟩ => ⟨S96, .f32⟩
  | .hbm, ⟨12, _⟩ => ⟨S96, .f32⟩
  | .hbm, ⟨13, _⟩ => ⟨S96, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S96, .f32⟩
  | .hbm, ⟨19, _⟩ => ⟨S96, .f32⟩
  | .hbm, ⟨20, _⟩ => ⟨S96x1, .f32⟩
  | .hbm, ⟨21, _⟩ => ⟨S96x96, .f32⟩
  | .hbm, ⟨22, _⟩ => ⟨S96x96, .f32⟩
  | .hbm, ⟨23, _⟩ => ⟨S96x96, .bf16⟩
  | .hbm, ⟨24, _⟩ => ⟨S96, .f32⟩
  | .hbm, ⟨25, _⟩ => ⟨S96, .f32⟩
  | .hbm, ⟨26, _⟩ => ⟨S96x1, .f32⟩
  | .hbm, ⟨27, _⟩ => ⟨S96x96, .f32⟩
  | .hbm, ⟨28, _⟩ => ⟨S96x96, .f32⟩
  | .hbm, ⟨29, _⟩ => ⟨S96x96, .bf16⟩
  | .hbm, ⟨30, _⟩ => ⟨S96, .f32⟩
  | .hbm, ⟨31, _⟩ => ⟨S96, .f32⟩
  | .hbm, ⟨32, _⟩ => ⟨S96x1, .f32⟩
  | .hbm, ⟨33, _⟩ => ⟨S96x96, .f32⟩
  | .hbm, ⟨34, _⟩ => ⟨S96x96, .f32⟩
  | .hbm, ⟨35, _⟩ => ⟨S96x96, .bf16⟩
  | .hbm, ⟨36, _⟩ => ⟨S8x96x128x128, .f32⟩
  | .hbm, ⟨37, _⟩ => ⟨S8x96x128x128, .f32⟩
  | .hbm, ⟨38, _⟩ => ⟨S8x96x128x128, .f32⟩
  | .local _ .vmem, ⟨0, _⟩ => ⟨S1x96x64x128, .f32⟩
  | .local _ .vmem, ⟨1, _⟩ => ⟨S1x96x64x128, .f32⟩
  | .local _ .vmem, ⟨2, _⟩ => ⟨S1x96x96, .f32⟩
  | .local _ .vmem, ⟨3, _⟩ => ⟨S1x96x96, .f32⟩
  | .local _ .vmem, ⟨4, _⟩ => ⟨S96x96, .bf16⟩
  | .local _ .vmem, ⟨5, _⟩ => ⟨S96x96, .bf16⟩
  | .local _ .vmem, ⟨6, _⟩ => ⟨S96x96, .bf16⟩
  | .local _ .vmem, ⟨7, _⟩ => ⟨S1x96x64x128, .f32⟩
  | .local _ .vmem, ⟨8, _⟩ => ⟨S1x96x64x128, .f32⟩
  | .local _ .vmem, ⟨9, _⟩ => ⟨S1x96x64x128, .f32⟩
  | .local _ .vmem, ⟨10, _⟩ => ⟨S1x96x64x128, .f32⟩
  | .local _ .vmem, ⟨11, _⟩ => ⟨S1x96x64x128, .f32⟩
  | .local _ .vmem, ⟨12, _⟩ => ⟨S1x96x64x128, .f32⟩
  | _, _ => ⟨S8x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x96x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x96x128x128 : Shape := ⟨4, ![8, 96, 128, 128]⟩
abbrev S8x96x96 : Shape := ⟨3, ![8, 96, 96]⟩
abbrev S96x96 : Shape := ⟨2, ![96, 96]⟩
abbrev S96 : Shape := ⟨1, ![96]⟩
abbrev S96x8x128x128 : Shape := ⟨4, ![96, 8, 128, 128]⟩
abbrev S1x96x1x1 : Shape := ⟨4, ![1, 96, 1, 1]⟩
abbrev S_ : Shape := ⟨0, ![]⟩
abbrev S8x96x16384 : Shape := ⟨3, ![8, 96, 16384]⟩

abbrev nBuf : Space → Nat
  | .hbm => 86
  | .vmem => 0
  | .smem => 0
  | _ => 0

abbrev bufTy : (tb : Table) → Fin (tcTables nBuf tb) → BufTy
  | .hbm, ⟨0, _⟩ => ⟨S8x96x128x128, .f32⟩
  | .hbm, ⟨1, _⟩ => ⟨S8x96x96, .f32⟩
  | .hbm, ⟨2, _⟩ => ⟨S96x96, .f32⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S96x96, .f32⟩
  | .hbm, ⟨11, _⟩ => ⟨S96, .f32⟩
  | .hbm, ⟨12, _⟩ => ⟨S96, .f32⟩
  | .hbm, ⟨13, _⟩ => ⟨S96, .f32⟩
  | .hbm, ⟨14, _⟩ => ⟨S96x8x128x128, .f32⟩
  | .hbm, ⟨15, _⟩ => ⟨S8x96x128x128, .f32⟩
  | .hbm, ⟨16, _⟩ => ⟨S1x96x1x1, .f32⟩
  | .hbm, ⟨17, _⟩ => ⟨S8x96x128x128, .f32⟩
  | .hbm, ⟨18, _⟩ => ⟨S8x96x128x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S96, .f32⟩
  | .hbm, ⟨25, _⟩ => ⟨S96, .f32⟩
  | .hbm, ⟨26, _⟩ => ⟨S1x96x1x1, .f32⟩
  | .hbm, ⟨27, _⟩ => ⟨S8x96x128x128, .f32⟩
  | .hbm, ⟨28, _⟩ => ⟨S8x96x128x128, .f32⟩
  | .hbm, ⟨29, _⟩ => ⟨S1x96x1x1, .f32⟩
  | .hbm, ⟨30, _⟩ => ⟨S8x96x128x128, .f32⟩
  | .hbm, ⟨31, _⟩ => ⟨S8x96x128x128, .f32⟩
  | .hbm, ⟨32, _⟩ => ⟨S_, .f32⟩
  | .hbm, ⟨33, _⟩ => ⟨S8x96x128x128, .f32⟩
  | .hbm, ⟨34, _⟩ => ⟨S8x96x128x128, .f32⟩
  | .hbm, ⟨35, _⟩ => ⟨S8x96x16384, .f32⟩
  | .hbm, ⟨36, _⟩ => ⟨S8x96x16384, .f32⟩
  | .hbm, ⟨37, _⟩ => ⟨S8x96x128x128, .f32⟩
  | .hbm, ⟨38, _⟩ => ⟨S96x8x128x128, .f32⟩
  | .hbm, ⟨39, _⟩ => ⟨S8x96x128x128, .f32⟩
  | .hbm, ⟨40, _⟩ => ⟨S1x96x1x1, .f32⟩
  | .hbm, ⟨41, _⟩ => ⟨S8x96x128x128, .f32⟩
  | .hbm, ⟨42, _⟩ => ⟨S8x96x128x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S96, .f32⟩
  | .hbm, ⟨49, _⟩ => ⟨S96, .f32⟩
  | .hbm, ⟨50, _⟩ => ⟨S1x96x1x1, .f32⟩
  | .hbm, ⟨51, _⟩ => ⟨S8x96x128x128, .f32⟩
  | .hbm, ⟨52, _⟩ => ⟨S8x96x128x128, .f32⟩
  | .hbm, ⟨53, _⟩ => ⟨S1x96x1x1, .f32⟩
  | .hbm, ⟨54, _⟩ => ⟨S8x96x128x128, .f32⟩
  | .hbm, ⟨55, _⟩ => ⟨S8x96x128x128, .f32⟩
  | .hbm, ⟨56, _⟩ => ⟨S_, .f32⟩
  | .hbm, ⟨57, _⟩ => ⟨S8x96x128x128, .f32⟩
  | .hbm, ⟨58, _⟩ => ⟨S8x96x128x128, .f32⟩
  | .hbm, ⟨59, _⟩ => ⟨S8x96x16384, .f32⟩
  | .hbm, ⟨60, _⟩ => ⟨S8x96x16384, .f32⟩
  | .hbm, ⟨61, _⟩ => ⟨S8x96x128x128, .f32⟩
  | .hbm, ⟨62, _⟩ => ⟨S96x8x128x128, .f32⟩
  | .hbm, ⟨63, _⟩ => ⟨S8x96x128x128, .f32⟩
  | .hbm, ⟨64, _⟩ => ⟨S1x96x1x1, .f32⟩
  | .hbm, ⟨65, _⟩ => ⟨S8x96x128x128, .f32⟩
  | .hbm, ⟨66, _⟩ => ⟨S8x96x128x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S96, .f32⟩
  | .hbm, ⟨73, _⟩ => ⟨S96, .f32⟩
  | .hbm, ⟨74, _⟩ => ⟨S1x96x1x1, .f32⟩
  | .hbm, ⟨75, _⟩ => ⟨S8x96x128x128, .f32⟩
  | .hbm, ⟨76, _⟩ => ⟨S8x96x128x128, .f32⟩
  | .hbm, ⟨77, _⟩ => ⟨S1x96x1x1, .f32⟩
  | .hbm, ⟨78, _⟩ => ⟨S8x96x128x128, .f32⟩
  | .hbm, ⟨79, _⟩ => ⟨S8x96x128x128, .f32⟩
  | .hbm, ⟨80, _⟩ => ⟨S_, .f32⟩
  | .hbm, ⟨81, _⟩ => ⟨S8x96x128x128, .f32⟩
  | .hbm, ⟨82, _⟩ => ⟨S8x96x128x128, .f32⟩
  | .hbm, ⟨83, _⟩ => ⟨S8x96x16384, .f32⟩
  | .hbm, ⟨84, _⟩ => ⟨S8x96x16384, .f32⟩
  | .hbm, ⟨85, _⟩ => ⟨S8x96x128x128, .f32⟩
  | _, _ => ⟨S8x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call2_cst : Ref sig .tc := ⟨.hbm, 80, rfl⟩
abbrev main_call2_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Proof.Algebra.lean ====
/-
  The layer of the network at one pixel, over the extended reals, in the two forms in which it is computed, and the
  equation between them. A pixel is a column of 96 channels; a layer mixes the channels by a 96 × 96 matrix, scales and
  clamps them, and mixes the result by the adjacency matrix of the batch entry.

  The reference scales AFTER the first product and feeds the second product of one layer to the next one; the kernel
  scales the ROWS of the weight matrix beforehand, and from the second layer on multiplies weight by adjacency first.
  Both are the same sums where every number is finite: distributivity and associativity, which the extended reals have
  only there.
-/
module

public import Mathlib.Data.EReal.Operations
public import Mathlib.Data.EReal.Inv
public import Mathlib.Algebra.BigOperators.Ring.Finset

@[expose] public section

noncomputable section

namespace Cert.Layer

/-- One pixel: an extended real for each of the 96 channels. -/
abbrev Col := Fin 96 → EReal

/-- A channel-mixing matrix. -/
abbrev Mat := Fin 96 → Fin 96 → EReal

/-- The product of a matrix with a column. -/
def mulCol (M : Mat) (v : Col) : Col := fun i => ∑ k, M i k * v k

/-- The product of two matrices. -/
def mulMat (M N : Mat) : Mat := fun i j => ∑ k, M i k * N k j

/-- Each channel clamped below at zero. -/
def relu (v : Col) : Col := fun i => max (v i) 0

/-- A matrix with row `i` multiplied by `s i`. -/
def scaleRows (M : Mat) (s : Col) : Mat := fun i k => M i k * s i

/-- The convolution of size one, the normalisation in inference mode and the clamp, as the reference computes them. -/
def convNorm (W : Mat) (b s β x : Col) : Col := relu fun i => (mulCol W x i + b i) * s i + β i

/-- One layer of the reference. -/
def layer (A W : Mat) (b s β x : Col) : Col := mulCol A (convNorm W b s β x)

/-- What the kernel holds of the first layer before the adjacency product. -/
def hidden₁ (W₁ : Mat) (x : Col) : Col := relu (mulCol W₁ x)

/-- What the kernel holds of the second layer before the adjacency product. -/
def hidden₂ (A W₁ W₂ : Mat) (x : Col) : Col := relu (mulCol (mulMat W₂ A) (hidden₁ W₁ x))

/-- What the kernel holds of the third layer before the adjacency product. -/
def hidden₃ (A W₁ W₂ W₃ : Mat) (x : Col) : Col := relu (mulCol (mulMat W₃ A) (hidden₂ A W₁ W₂ x))

/-- An extended real that is a real. -/
def IsReal (x : EReal) : Prop := ∃ r : ℝ, x = r

/-- Zero is a real. -/
theorem isReal_zero : IsReal 0 := ⟨0, rfl⟩

/-- A product of reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A real clamped below at zero is a real. -/
theorem IsReal.max_zero {x : EReal} (hx : IsReal x) : IsReal (max x 0) := by
  rcases max_choice x 0 with h | h <;> rw [h]
  exacts [hx, isReal_zero]

/-- A finite sum of reals, taken over the extended reals, is their sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value, the larger of it and its negation, is below `⊤` is a real. -/
theorem isReal_of_abs_lt {x : EReal} (h : max x (-x) < ⊤) : IsReal x := by
  refine ⟨x.toReal, (EReal.coe_toReal ?_ ?_).symm⟩
  · rintro rfl
    exact absurd h (by simp)
  · rintro rfl
    exact absurd h (by simp)

/-- A finite matrix times a finite column is a finite column. -/
theorem isReal_mulCol {M : Mat} {v : Col} (hM : ∀ i k, IsReal (M i k)) (hv : ∀ k, IsReal (v k)) (i : Fin 96) :
    IsReal (mulCol M v i) := by
  choose M' hM' using hM
  choose v' hv' using hv
  refine ⟨∑ k, M' i k * v' k, ?_⟩
  simp only [mulCol, hM', hv', coe_sum, EReal.coe_mul]

/-- A finite column clamped is finite. -/
theorem isReal_relu {v : Col} (hv : ∀ k, IsReal (v k)) (i : Fin 96) : IsReal (relu v i) := (hv i).max_zero

/-- A product of finite matrices is finite. -/
theorem isReal_mulMat {M N : Mat} (hM : ∀ i k, IsReal (M i k)) (hN : ∀ i k, IsReal (N i k)) (i j : Fin 96) :
    IsReal (mulMat M N i j) := isReal_mulCol hM (fun k => hN k j) i

/-- A finite matrix with its rows scaled by reals is finite. -/
theorem isReal_scaleRows {M : Mat} {s : Col} (hM : ∀ i k, IsReal (M i k)) (hs : ∀ k, IsReal (s k)) (i k : Fin 96) :
    IsReal (scaleRows M s i k) := (hM i k).mul (hs i)

/-- The first hidden column is finite. -/
theorem isReal_hidden₁ {W₁ : Mat} {x : Col} (h₁ : ∀ i k, IsReal (W₁ i k)) (hx : ∀ k, IsReal (x k)) (i : Fin 96) :
    IsReal (hidden₁ W₁ x i) := isReal_relu (isReal_mulCol h₁ hx) i

/-- The second hidden column is finite. -/
theorem isReal_hidden₂ {A W₁ W₂ : Mat} {x : Col} (hA : ∀ i k, IsReal (A i k)) (h₁ : ∀ i k, IsReal (W₁ i k))
    (h₂ : ∀ i k, IsReal (W₂ i k)) (hx : ∀ k, IsReal (x k)) (i : Fin 96) : IsReal (hidden₂ A W₁ W₂ x i) :=
  isReal_relu (isReal_mulCol (isReal_mulMat h₂ hA) (isReal_hidden₁ h₁ hx)) i

/-- Multiplying two finite matrices first and a finite column afterwards changes nothing. -/
theorem mulCol_mulMat {M N : Mat} {v : Col} (hM : ∀ i k, IsReal (M i k)) (hN : ∀ i k, IsReal (N i k))
    (hv : ∀ k, IsReal (v k)) : mulCol (mulMat M N) v = mulCol M (mulCol N v) := by
  choose M' hM' using hM
  choose N' hN' using hN
  choose v' hv' using hv
  funext i
  simp only [mulCol, mulMat, hM', hN', hv', ← EReal.coe_mul, ← coe_sum]
  congr 1
  simp only [Finset.sum_mul, Finset.mul_sum]
  rw [Finset.sum_comm]
  exact Finset.sum_congr rfl fun _ _ => Finset.sum_congr rfl fun _ _ => mul_assoc _ _ _

/-- Scaling the rows of a finite matrix beforehand scales the product's channels. -/
theorem mulCol_scaleRows {M : Mat} {s v : Col} (hM : ∀ i k, IsReal (M i k)) (hs : ∀ k, IsReal (s k))
    (hv : ∀ k, IsReal (v k)) (i : Fin 96) : mulCol (scaleRows M s) v i = mulCol M v i * s i := by
  choose M' hM' using hM
  choose s' hs' using hs
  choose v' hv' using hv
  simp only [mulCol, scaleRows, hM', hs', hv', ← EReal.coe_mul, ← coe_sum]
  congr 1
  rw [Finset.sum_mul]
  exact Finset.sum_congr rfl fun _ _ => mul_right_comm _ _ _

/-- The reference's convolution and normalisation without the two biases is the kernel's product with the scaled weight. -/
theorem convNorm_eq {W : Mat} {b s β x : Col} (hW : ∀ i k, IsReal (W i k)) (hs : ∀ k, IsReal (s k))
    (hx : ∀ k, IsReal (x k)) (hb : ∀ k, b k = 0) (hβ : ∀ k, β k = 0) :
    convNorm W b s β x = relu (mulCol (scaleRows W s) x) := by
  unfold convNorm
  congr 1
  funext i
  rw [hb, hβ, add_zero, add_zero, mulCol_scaleRows hW hs hx]

section Net

variable {A W₁ W₂ W₃ : Mat} {b₁ s₁ β₁ b₂ s₂ β₂ b₃ s₃ β₃ x : Col}
  (hx : ∀ k, IsReal (x k)) (hA : ∀ i k, IsReal (A i k))
  (h₁ : ∀ i k, IsReal (W₁ i k)) (hs₁ : ∀ k, IsReal (s₁ k)) (hb₁ : ∀ k, b₁ k = 0) (hβ₁ : ∀ k, β₁ k = 0)
  (h₂ : ∀ i k, IsReal (W₂ i k)) (hs₂ : ∀ k, IsReal (s₂ k)) (hb₂ : ∀ k, b₂ k = 0) (hβ₂ : ∀ k, β₂ k = 0)
  (h₃ : ∀ i k, IsReal (W₃ i k)) (hs₃ : ∀ k, IsReal (s₃ k)) (hb₃ : ∀ k, b₃ k = 0) (hβ₃ : ∀ k, β₃ k = 0)

include hx h₁ hs₁ hb₁ hβ₁

/-- The first layer of the reference is the kernel's first result. -/
theorem layer₁_eq : layer A W₁ b₁ s₁ β₁ x = mulCol A (hidden₁ (scaleRows W₁ s₁) x) := by
  unfold layer hidden₁
  rw [convNorm_eq h₁ hs₁ hx hb₁ hβ₁]

include hA h₂ hs₂ hb₂ hβ₂

/-- Two layers of the reference are the kernel's second result. -/
theorem layer₂_eq : layer A W₂ b₂ s₂ β₂ (layer A W₁ b₁ s₁ β₁ x)
    = mulCol A (hidden₂ A (scaleRows W₁ s₁) (scaleRows W₂ s₂) x) := by
  have k₁ := isReal_hidden₁ (isReal_scaleRows h₁ hs₁) hx
  rw [layer₁_eq hx h₁ hs₁ hb₁ hβ₁]
  unfold layer hidden₂
  rw [convNorm_eq h₂ hs₂ (isReal_mulCol hA k₁) hb₂ hβ₂, mulCol_mulMat (isReal_scaleRows h₂ hs₂) hA k₁]

include h₃ hs₃ hb₃ hβ₃

/-- Three layers of the reference are the kernel's third result. -/
theorem layer₃_eq : layer A W₃ b₃ s₃ β₃ (layer A W₂ b₂ s₂ β₂ (layer A W₁ b₁ s₁ β₁ x))
    = mulCol A (hidden₃ A (scaleRows W₁ s₁) (scaleRows W₂ s₂) (scaleRows W₃ s₃) x) := by
  have k₂ := isReal_hidden₂ hA (isReal_scaleRows h₁ hs₁) (isReal_scaleRows h₂ hs₂) hx
  rw [layer₂_eq hx hA h₁ hs₁ hb₁ hβ₁ h₂ hs₂ hb₂ hβ₂]
  unfold layer hidden₃
  rw [convNorm_eq h₃ hs₃ (isReal_mulCol hA k₂) hb₃ hβ₃, mulCol_mulMat (isReal_scaleRows h₃ hs₃) hA k₂]

end Net

end Cert.Layer

end

end
-- ==== Proof.Views.lean ====
/-
  The argument arrays read as the matrices, channel vectors and pixels of one layer. Both programs are stated over these
  readings: the arrays are the same on both sides.
-/
module

public import proofs.«01_k».proof.Defs
public import proofs.«01_k».proof.Proof.Algebra
public import Idealize.ShloMosaic.Lib.Pipeline.ValueKit

@[expose] public section

set_option maxRecDepth 16384

noncomputable section

open Idealize.ShloMosaic Idealize.ShloMosaic.TcCoe Idealize.SL.Sem

namespace Cert.Layer

open Cert.KernelIdeal

/-- The adjacency matrix of batch entry `n`. -/
def adj (A : FVec Ideal S8x96x96 .f32) (n : Fin 8) : Mat := fun i k => A (ix3 n i k)

/-- A weight array as a matrix. -/
def mat (W : FVec Ideal S96x96 .f32) : Mat := fun i k => W (ix2 i k)

/-- A channel vector. -/
def vec (b : FVec Ideal S96 .f32) : Col := fun i => b (ix1 i)

/-- The pixel of batch entry `n` at row `h` and column `w`. -/
def pix (x : FVec Ideal S8x96x128x128 .f32) (n : Fin 8) (h w : Fin 128) : Col := fun k => x (ix4 n k h w)

/-- The reciprocal of the square root of the normalisation's variance plus epsilon, as both programs compute it. -/
def invStd : EReal := Ideal.div 1 (Ideal.sqrt (Ideal.ofBits .f32 0x3F800054#32))

/-- The normalisation's scale: the gain times the reciprocal deviation. -/
def scale (g : FVec Ideal S96 .f32) : Col := fun i => vec g i * invStd

/-- The weight with the normalisation's scale folded into its rows. -/
def folded (W : FVec Ideal S96x96 .f32) (g : FVec Ideal S96 .f32) : Mat := scaleRows (mat W) (scale g)

/-- The variance plus epsilon is the positive real `8388692 / 8388608`. -/
theorem ofBits_var : Ideal.ofBits .f32 0x3F800054#32 = ((8388692 / 8388608 : ℝ) : EReal) := by
  simp [Ideal.ofBits, Ideal.ieee, -EReal.coe_mul]
  norm_num

/-- The reciprocal deviation is a real. -/
theorem isReal_invStd : IsReal invStd := by
  unfold invStd
  rw [ofBits_var]
  have h : (0 : ℝ) < Real.sqrt (8388692 / 8388608) := Real.sqrt_pos.2 (by norm_num)
  have e : Ideal.sqrt ((8388692 / 8388608 : ℝ) : EReal) = (Real.sqrt (8388692 / 8388608) : EReal) :=
    if_neg (not_lt.2 (by norm_num))
  rw [e, Ideal.div, if_neg (by exact_mod_cast h.ne'), one_mul]
  exact ⟨_, (EReal.coe_inv _).symm⟩

end Cert.Layer

end

end
-- ==== Proof.Block.lean ====
/-
  What the body leaves in its three output blocks, at an index: the kernel's form of the layers at the pixel there, over
  the feature, adjacency and weight blocks it loads.
-/
module

public import proofs.«01_k».proof.Defs
public import proofs.«01_k».proof.Proof.Algebra
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Layer

/-- The adjacency block of a batch entry as a matrix. -/
def adjB (A : FVec Ideal S1x96x96 .f32) : Mat := fun i k => A (ix3 0 i k)

/-- A weight array as a matrix. -/
def matB (W : FVec Ideal S96x96 .bf16) : Mat := fun i k => W (ix2 i k)

/-- The pixel of a feature block at row `h` and lane `w`. -/
def pixB (x : FVec Ideal S1x96x64x128 .f32) (h : Fin 64) (w : Fin 128) : Col := fun k => x (ix4 0 k h w)

/-- The first result's block. -/
theorem pay_out₁ (x : FVec Ideal S1x96x64x128 .f32) (A : FVec Ideal S1x96x96 .f32) (W₁ : FVec Ideal S96x96 .bf16)
    (c : Fin 96) (h : Fin 64) (w : Fin 128) :
    k0_pay6 (F := Ideal) x A W₁ (ix4 0 c h w) = mulCol (adjB A) (hidden₁ (matB W₁) (pixB x h w)) c := by
  pointwise [k0_pay6, k0_pay5, k0_pay3, mulCol, hidden₁, relu, adjB, matB, pixB]

/-- The second result's block. -/
theorem pay_out₂ (x : FVec Ideal S1x96x64x128 .f32) (A : FVec Ideal S1x96x96 .f32) (W₁ W₂ : FVec Ideal S96x96 .bf16)
    (c : Fin 96) (h : Fin 64) (w : Fin 128) :
    k0_pay1 (k0_pay8 (F := Ideal) x A W₂ W₁) (ix4 0 c h w)
      = mulCol (adjB A) (hidden₂ (adjB A) (matB W₁) (matB W₂) (pixB x h w)) c := by
  pointwise [k0_pay1, k0_pay8, k0_pay7, k0_pay5, k0_pay3, mulCol, mulMat, hidden₁, hidden₂, relu, adjB, matB, pixB]

/-- The third result's block. -/
theorem pay_out₃ (x : FVec Ideal S1x96x64x128 .f32) (A : FVec Ideal S1x96x96 .f32) (W₁ W₂ W₃ : FVec Ideal S96x96 .bf16)
    (c : Fin 96) (h : Fin 64) (w : Fin 128) :
    k0_pay2 (k0_pay3 A) (k0_pay4 A W₃) (k0_pay7 (F := Ideal) x A W₂ W₁) (ix4 0 c h w)
      = mulCol (adjB A) (hidden₃ (adjB A) (matB W₁) (matB W₂) (matB W₃) (pixB x h w)) c := by
  pointwise [k0_pay2, k0_pay4, k0_pay7, k0_pay5, k0_pay3, mulCol, mulMat, hidden₁, hidden₂, hidden₃, relu, adjB, matB, pixB]

end Cert.KernelIdeal.Block

end

end
-- ==== Proof.Arrays.lean ====
/-
  What the kernel's three result arrays hold after the run, as functions of the argument arrays: each grid point writes
  its own block, the blocks tile the arrays, and the blocks a point loads are the arguments read at its place.
-/
module

public import proofs.«01_k».proof.Proof.Block
public import proofs.«01_k».proof.Proof.Views

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Layer

variable (m : (ℓ : Loc nD τ sig) → Buf (Elt Ideal) ℓ)

/-- The block each window has at a grid point: the batch entry is the point's first coordinate, the half of the rows its
    second, and the weights are whole. -/
theorem idx : ∀ t : Fin cfg0.N, win0_0.index t = ![(grid0.coords t 0).val, 0, (grid0.coords t 1).val, 0]
    ∧ win0_1.index t = ![(grid0.coords t 0).val, 0, 0]
    ∧ win0_2.index t = ![0, 0] ∧ win0_3.index t = ![0, 0] ∧ win0_4.index t = ![0, 0]
    ∧ win0_5.index t = ![(grid0.coords t 0).val, 0, (grid0.coords t 1).val, 0]
    ∧ win0_6.index t = ![(grid0.coords t 0).val, 0, (grid0.coords t 1).val, 0]
    ∧ win0_7.index t = ![(grid0.coords t 0).val, 0, (grid0.coords t 1).val, 0] :=
  (by decide +kernel : ∀ t : Fin grid0.N, _)

/-- The kernel's first result over the argument arrays: at an index, its form of the first layer at the pixel there. -/
def out₁ (x : FVec Ideal S8x96x128x128 .f32) (A : FVec Ideal S8x96x96 .f32) (W₁ : FVec Ideal S96x96 .f32) (g₁ : FVec Ideal S96 .f32) :
    FVec Ideal S8x96x128x128 .f32 :=
  fun i => mulCol (adj A (i 0)) (hidden₁ (folded W₁ g₁) (pix x (i 0) (i 2) (i 3))) (i 1)

/-- The kernel's second result over the argument arrays. -/
def out₂ (x : FVec Ideal S8x96x128x128 .f32) (A : FVec Ideal S8x96x96 .f32) (W₁ : FVec Ideal S96x96 .f32) (g₁ : FVec Ideal S96 .f32) (W₂ : FVec Ideal S96x96 .f32) (g₂ : FVec Ideal S96 .f32) :
    FVec Ideal S8x96x128x128 .f32 :=
  fun i => mulCol (adj A (i 0)) (hidden₂ (adj A (i 0)) (folded W₁ g₁) (folded W₂ g₂) (pix x (i 0) (i 2) (i 3))) (i 1)

/-- The kernel's third result over the argument arrays. -/
def out₃ (x : FVec Ideal S8x96x128x128 .f32) (A : FVec Ideal S8x96x96 .f32) (W₁ : FVec Ideal S96x96 .f32) (g₁ : FVec Ideal S96 .f32) (W₂ : FVec Ideal S96x96 .f32) (g₂ : FVec Ideal S96 .f32) (W₃ : FVec Ideal S96x96 .f32) (g₃ : FVec Ideal S96 .f32) :
    FVec Ideal S8x96x128x128 .f32 :=
  fun i => mulCol (adj A (i 0)) (hidden₃ (adj A (i 0)) (folded W₁ g₁) (folded W₂ g₂) (folded W₃ g₃) (pix x (i 0) (i 2) (i 3))) (i 1)

/-- The block of the weight window of layer 1 is the folded weight. -/
theorem read_mat₁ (c : Dev nD) (t : Fin cfg0.N) : matB (iblk m c 2 t) = folded (m ((c : Thread nD τ).loc main_arg2)) (m ((c : Thread nD τ).loc main_arg4)) := by
  funext i k
  have e : matB (iblk m c 2 t) i k = V m c main_v7 (ix2 i k) := by
    unfold matB
    blk_ext [iblk, idx t]
  rw [e]
  unfold folded scaleRows mat scale vec
  entry_read
  pointwise [invStd]

/-- The block of the weight window of layer 2 is the folded weight. -/
theorem read_mat₂ (c : Dev nD) (t : Fin cfg0.N) : matB (iblk m c 3 t) = folded (m ((c : Thread nD τ).loc main_arg6)) (m ((c : Thread nD τ).loc main_arg8)) := by
  funext i k
  have e : matB (iblk m c 3 t) i k = V m c main_v13 (ix2 i k) := by
    unfold matB
    blk_ext [iblk, idx t]
  rw [e]
  unfold folded scaleRows mat scale vec
  entry_read
  pointwise [invStd]

/-- The block of the weight window of layer 3 is the folded weight. -/
theorem read_mat₃ (c : Dev nD) (t : Fin cfg0.N) : matB (iblk m c 4 t) = folded (m ((c : Thread nD τ).loc main_arg10)) (m ((c : Thread nD τ).loc main_arg12)) := by
  funext i k
  have e : matB (iblk m c 4 t) i k = V m c main_v19 (ix2 i k) := by
    unfold matB
    blk_ext [iblk, idx t]
  rw [e]
  unfold folded scaleRows mat scale vec
  entry_read
  pointwise [invStd]

/-- A pixel of the feature block at a point, at the place result window 5 writes. -/
theorem read_pix₁ (c : Dev nD) (t : Fin cfg0.N) (y : S1x96x64x128.Idx) :
    pixB (iblk m c 0 t) (y 2) (y 3) = pix (m ((c : Thread nD τ).loc main_arg0)) ((((cfg0.win 5).blk t).view.emb y) 0)
      ((((cfg0.win 5).blk t).view.emb y) 2) ((((cfg0.win 5).blk t).view.emb y) 3) := by
  funext k
  unfold pixB pix
  blk_ext [iblk, V, idx t]

/-- The adjacency block at a point is the matrix of the batch entry result window 5 writes. -/
theorem read_adj₁ (c : Dev nD) (t : Fin cfg0.N) (y : S1x96x64x128.Idx) :
    adjB (iblk m c 1 t) = adj (m ((c : Thread nD τ).loc main_arg1)) ((((cfg0.win 5).blk t).view.emb y) 0) := by
  funext i k
  unfold adjB adj
  blk_ext [iblk, V, idx t]

/-- A pixel of the feature block at a point, at the place result window 6 writes. -/
theorem read_pix₂ (c : Dev nD) (t : Fin cfg0.N) (y : S1x96x64x128.Idx) :
    pixB (iblk m c 0 t) (y 2) (y 3) = pix (m ((c : Thread nD τ).loc main_arg0)) ((((cfg0.win 6).blk t).view.emb y) 0)
      ((((cfg0.win 6).blk t).view.emb y) 2) ((((cfg0.win 6).blk t).view.emb y) 3) := by
  funext k
  unfold pixB pix
  blk_ext [iblk, V, idx t]

/-- The adjacency block at a point is the matrix of the batch entry result window 6 writes. -/
theorem read_adj₂ (c : Dev nD) (t : Fin cfg0.N) (y : S1x96x64x128.Idx) :
    adjB (iblk m c 1 t) = adj (m ((c : Thread nD τ).loc main_arg1)) ((((cfg0.win 6).blk t).view.emb y) 0) := by
  funext i k
  unfold adjB adj
  blk_ext [iblk, V, idx t]

/-- A pixel of the feature block at a point, at the place result window 7 writes. -/
theorem read_pix₃ (c : Dev nD) (t : Fin cfg0.N) (y : S1x96x64x128.Idx) :
    pixB (iblk m c 0 t) (y 2) (y 3) = pix (m ((c : Thread nD τ).loc main_arg0)) ((((cfg0.win 7).blk t).view.emb y) 0)
      ((((cfg0.win 7).blk t).view.emb y) 2) ((((cfg0.win 7).blk t).view.emb y) 3) := by
  funext k
  unfold pixB pix
  blk_ext [iblk, V, idx t]

/-- The adjacency block at a point is the matrix of the batch entry result window 7 writes. -/
theorem read_adj₃ (c : Dev nD) (t : Fin cfg0.N) (y : S1x96x64x128.Idx) :
    adjB (iblk m c 1 t) = adj (m ((c : Thread nD τ).loc main_arg1)) ((((cfg0.win 7).blk t).view.emb y) 0) := by
  funext i k
  unfold adjB adj
  blk_ext [iblk, V, idx t]

/-- Result window 5's array after the run. -/
theorem final₁ (c : Dev nD) : (dats m 0 c).arrAt 5 (cfgs 0).N = out₁ (m ((c : Thread nD τ).loc main_arg0)) (m ((c : Thread nD τ).loc main_arg1)) (m ((c : Thread nD τ).loc main_arg2)) (m ((c : Thread nD τ).loc main_arg4)) := by
  refine (dats m 0 c).arrAt_eq_of_covers 5 _ (by decide +kernel) fun t hf y => ?_
  blk_simp
  rw [after0_5]
  frame_out
  have hy : y = ix4 0 (y 1) (y 2) (y 3) := by blk_ext []
  have h1 : (((cfg0.win 5).blk t).view.emb y) 1 = y 1 := Fin.ext (by blk_simp [idx t])
  unfold out₁
  rw [← read_pix₁ m c t y, ← read_adj₁ m c t y, h1, ← read_mat₁ m c t]
  refine (congrArg _ hy).trans ?_
  exact pay_out₁ (iblk m c 0 t) (iblk m c 1 t) (iblk m c 2 t) (y 1) (y 2) (y 3)

/-- Result window 6's array after the run. -/
theorem final₂ (c : Dev nD) : (dats m 0 c).arrAt 6 (cfgs 0).N = out₂ (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) := by
  refine (dats m 0 c).arrAt_eq_of_covers 6 _ (by decide +kernel) fun t hf y => ?_
  blk_simp
  rw [after0_6]
  frame_out
  have hy : y = ix4 0 (y 1) (y 2) (y 3) := by blk_ext []
  have h1 : (((cfg0.win 6).blk t).view.emb y) 1 = y 1 := Fin.ext (by blk_simp [idx t])
  unfold out₂
  rw [← read_pix₂ m c t y, ← read_adj₂ m c t y, h1, ← read_mat₁ m c t, ← read_mat₂ m c t]
  refine (congrArg _ hy).trans ?_
  exact pay_out₂ (iblk m c 0 t) (iblk m c 1 t) (iblk m c 2 t) (iblk m c 3 t) (y 1) (y 2) (y 3)

/-- Result window 7's array after the run. -/
theorem final₃ (c : Dev nD) : (dats m 0 c).arrAt 7 (cfgs 0).N = out₃ (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) := by
  refine (dats m 0 c).arrAt_eq_of_covers 7 _ (by decide +kernel) fun t hf y => ?_
  blk_simp
  rw [after0_7]
  frame_out
  have hy : y = ix4 0 (y 1) (y 2) (y 3) := by blk_ext []
  have h1 : (((cfg0.win 7).blk t).view.emb y) 1 = y 1 := Fin.ext (by blk_simp [idx t])
  unfold out₃
  rw [← read_pix₃ m c t y, ← read_adj₃ m c t y, h1, ← read_mat₁ m c t, ← read_mat₂ m c t, ← read_mat₃ m c t]
  refine (congrArg _ hy).trans ?_
  exact pay_out₃ (iblk m c 0 t) (iblk m c 1 t) (iblk m c 2 t) (iblk m c 3 t) (iblk m c 4 t) (y 1) (y 2) (y 3)

end Cert.KernelIdeal.Arrays

end

end
-- ==== Proof.Reference.lean ====
/-
  What the reference computes: its three results are one layer applied once, twice and three times, and a layer at an
  index is the layer of the pixel there.
-/
module

public import proofs.«01_k».proof.Proof.Views
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Net

open Cert.ReferenceIdeal Cert.ReferenceIdeal.Gen Cert.Layer

/-- One layer of the reference over whole arrays, as its program composes it. -/
def layerArr (x : FVec Ideal S8x96x128x128 .f32) (A : FVec Ideal S8x96x96 .f32) (W : FVec Ideal S96x96 .f32)
    (b g β : FVec Ideal S96 .f32) : FVec Ideal S8x96x128x128 .f32 :=
  shapeCast S8x96x128x128 (Host.dotGeneral dot_S8x96x96_S8x96x16384_S8x96x16384_2_1_1_2_0_0 none A
    (shapeCast S8x96x16384 (maximumf (addf (mulf (addf (transpose S8x96x128x128 [1, 0, 2, 3] (Host.dotGeneral dot_S96x96_S8x96x128x128_S96x8x128x128_1_1_0_023_n_n none W x) transposes_S96x8x128x128_S8x96x128x128_1_0_2_3)
      (broadcastInDim S8x96x128x128 ![0, 1, 2, 3] bcast_S1x96x1x1_S8x96x128x128_0_1_2_3 (broadcastInDim S1x96x1x1 ![1] bcast_S96_S1x96x1x1_1 b)))
      (broadcastInDim S8x96x128x128 ![0, 1, 2, 3] bcast_S1x96x1x1_S8x96x128x128_0_1_2_3 (broadcastInDim S1x96x1x1 ![1] bcast_S96_S1x96x1x1_1 (mulf g (broadcastInDim S96 ![] bcast_S_S96 (id (Host.divf (constant S_ .f32 0x3F800000#32) (Host.sqrt (constant S_ .f32 0x3F800054#32)))))))))
      (broadcastInDim S8x96x128x128 ![0, 1, 2, 3] bcast_S1x96x1x1_S8x96x128x128_0_1_2_3 (broadcastInDim S1x96x1x1 ![1] bcast_S96_S1x96x1x1_1 β))) (broadcastInDim S8x96x128x128 ![] bcast_S_S8x96x128x128 (constant S_ .f32 0x00000000#32))) shapeCasts_S8x96x128x128_S8x96x16384)) shapeCasts_S8x96x16384_S8x96x128x128

/-- A layer over whole arrays, at an index. -/
theorem layerArr_at (x : FVec Ideal S8x96x128x128 .f32) (A : FVec Ideal S8x96x96 .f32) (W : FVec Ideal S96x96 .f32)
    (b g β : FVec Ideal S96 .f32) (n : Fin 8) (c : Fin 96) (h w : Fin 128) :
    layerArr x A W b g β (ix4 n c h w) = layer (adj A n) (mat W) (vec b) (scale g) (vec β) (pix x n h w) c := by
  unfold layerArr
  rw [id_eq]
  pointwise [layer, convNorm, mulCol, relu, adj, mat, vec, scale, invStd, pix]

/-- A layer over whole arrays, at a pixel. -/
theorem pix_layerArr (x : FVec Ideal S8x96x128x128 .f32) (A : FVec Ideal S8x96x96 .f32) (W : FVec Ideal S96x96 .f32)
    (b g β : FVec Ideal S96 .f32) (n : Fin 8) (h w : Fin 128) :
    pix (layerArr x A W b g β) n h w = layer (adj A n) (mat W) (vec b) (scale g) (vec β) (pix x n h w) :=
  funext fun c => layerArr_at x A W b g β n c h w

/-- The reference's run: its three results are one, two and three layers of its arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = layerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v39) = layerArr (layerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v59) = layerArr (layerArr (layerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => h c) (Cert.ReferenceIdeal.Value.run (F := Ideal) m ρ)

/-- The reference ends on its own with its arguments unchanged and, having no semaphore, every counter at zero. -/
theorem frame : Cert.quiescent_ReferenceIdeal := fun m ρ _ =>
  (θ_run defs _ _).mono (fun r h => ⟨fun c => (h c).2.2.2, sem_eq_zero_of_no_sems (by decide) r.2⟩) (run m ρ)

end Cert.ReferenceIdeal.Net

end

end
-- ==== Proof.Finite.lean ====
/-
  The precondition read: every number of the features, the adjacency, the weights and the gains is a real, and the two
  bias vectors of each layer are zero.
-/
module

public import proofs.«01_k».proof.Proof.Views
public import proofs.«01_k».proof.Proof.Gen.Pre_finite_without_bias
public import Idealize.ShloMosaic.Lib.ReduceAll

@[expose] public section

set_option maxRecDepth 16384

noncomputable section

open Idealize.ShloMosaic Idealize.ShloMosaic.TcCoe Idealize.SL.Sem

namespace Cert.Pre_finite_without_bias.Read

open Cert.Pre_finite_without_bias Cert.Pre_finite_without_bias.Gen Cert.Layer

/-- The single-precision pattern of infinity is the top of the extended reals. -/
theorem ofBits_top : Ideal.ofBits .f32 0x7F800000#32 = (⊤ : EReal) := by
  simp [Ideal.ofBits, Ideal.ieee]

/-- Where `|x| < ∞` is tested true, `x` is a real. -/
theorem isReal_of_cmp {x : EReal} (h : Ideal.cmp .olt (max x (-x)) (Ideal.ofBits .f32 0x7F800000#32) = 1#1) : IsReal x := by
  rw [ofBits_top] at h
  refine isReal_of_abs_lt ?_
  by_contra hn
  simp [Ideal.cmp, hn] at h

/-- Where `x = 0` is tested true, `x` is zero. -/
theorem eq_zero_of_cmp {x : EReal} (h : Ideal.cmp .oeq x (Ideal.ofBits .f32 0x00000000#32) = 1#1) : x = 0 := by
  rw [Ideal.ofBits_zero_f32] at h
  by_contra hn
  simp [Ideal.cmp, hn] at h

/-- `jnp.all(jnp.abs(x) < jnp.inf)` true: every element is a real. -/
theorem all_real {s : Shape} {ax : List (Fin s.rank)} (x : FVec Ideal s .f32) (hb : S_.BroadcastsInDim s ![]) (hr : s.ReducesTo ax S_)
    (h : Host.reduce IntOp.andi (cmpf .olt (Host.absf x) (broadcastInDim s ![] hb (constant (F := Ideal) S_ .f32 0x7F800000#32)))
      (constantI S_ 1 1#1) hr h_S_ ix0 = 1#1) (i : s.Idx) : IsReal (x i) :=
  isReal_of_cmp (Host.reduce_andi_all _ _ hr h_S_ _ h i)

/-- `jnp.all(x == 0)` true: every element is zero. -/
theorem all_zero {s : Shape} {ax : List (Fin s.rank)} (x : FVec Ideal s .f32) (hb : S_.BroadcastsInDim s ![]) (hr : s.ReducesTo ax S_)
    (h : Host.reduce IntOp.andi (cmpf .oeq x (broadcastInDim s ![] hb (constant (F := Ideal) S_ .f32 0x00000000#32)))
      (constantI S_ 1 1#1) hr h_S_ ix0 = 1#1) (i : s.Idx) : x i = 0 :=
  eq_zero_of_cmp (Host.reduce_andi_all _ _ hr h_S_ _ h i)

/-- The precondition, read at the matrices, channel vectors and pixels of the layers. -/
theorem read (x : FVec Ideal S8x96x128x128 .f32) (A : FVec Ideal S8x96x96 .f32)
    (W₁ : FVec Ideal S96x96 .f32) (b₁ g₁ β₁ : FVec Ideal S96 .f32) (W₂ : FVec Ideal S96x96 .f32) (b₂ g₂ β₂ : FVec Ideal S96 .f32)
    (W₃ : FVec Ideal S96x96 .f32) (b₃ g₃ β₃ : FVec Ideal S96 .f32)
    (h : fn (F := Ideal) x A W₁ b₁ g₁ β₁ W₂ b₂ g₂ β₂ W₃ b₃ g₃ β₃ = fun _ => 1#1) :
    (∀ n h w k, IsReal (pix x n h w k)) ∧ (∀ n i k, IsReal (adj A n i k))
    ∧ ((∀ i k, IsReal (mat W₁ i k)) ∧ (∀ k, IsReal (scale g₁ k)) ∧ (∀ k, vec b₁ k = 0) ∧ ∀ k, vec β₁ k = 0)
    ∧ ((∀ i k, IsReal (mat W₂ i k)) ∧ (∀ k, IsReal (scale g₂ k)) ∧ (∀ k, vec b₂ k = 0) ∧ ∀ k, vec β₂ k = 0)
    ∧ ((∀ i k, IsReal (mat W₃ i k)) ∧ (∀ k, IsReal (scale g₃ k)) ∧ (∀ k, vec b₃ k = 0) ∧ ∀ k, vec β₃ k = 0) := by
  have e := congrFun h ix0
  simp only [fn, fn_part1, fn_part2, fn_part3, andi_apply, IntOp.andi_eq_one] at e
  obtain ⟨⟨⟨⟨⟨⟨⟨⟨⟨⟨⟨⟨⟨hx, hA⟩, hW₁⟩, hg₁⟩, hb₁⟩, hβ₁⟩, hW₂⟩, hg₂⟩, hb₂⟩, hβ₂⟩, hW₃⟩, hg₃⟩, hb₃⟩, hβ₃⟩ := e
  exact ⟨fun n h w k => all_real x _ _ hx _, fun n i k => all_real A _ _ hA _,
    ⟨fun i k => all_real W₁ _ _ hW₁ _, fun k => (all_real g₁ _ _ hg₁ _).mul isReal_invStd, fun k => all_zero b₁ _ _ hb₁ _, fun k => all_zero β₁ _ _ hβ₁ _⟩,
    ⟨fun i k => all_real W₂ _ _ hW₂ _, fun k => (all_real g₂ _ _ hg₂ _).mul isReal_invStd, fun k => all_zero b₂ _ _ hb₂ _, fun k => all_zero β₂ _ _ hβ₂ _⟩,
    ⟨fun i k => all_real W₃ _ _ hW₃ _, fun k => (all_real g₃ _ _ hg₃ _).mul isReal_invStd, fun k => all_zero b₃ _ _ hb₃ _, fun k => all_zero β₃ _ _ hβ₃ _⟩⟩

end Cert.Pre_finite_without_bias.Read

end

end
-- ==== Proof.Equation.lean ====
/-
  The equation: under the precondition, one, two and three layers of the reference are the kernel's three results.
-/
module

public import proofs.«01_k».proof.Proof.Arrays
public import proofs.«01_k».proof.Proof.Reference
public import proofs.«01_k».proof.Proof.Finite

@[expose] public section

set_option maxRecDepth 16384

noncomputable section

open Idealize.ShloMosaic Idealize.ShloMosaic.TcCoe Idealize.SL.Sem

namespace Cert.Equation

open Cert.KernelIdeal Cert.KernelIdeal.Arrays Cert.ReferenceIdeal.Net Cert.Layer

variable (x : FVec Ideal S8x96x128x128 .f32) (A : FVec Ideal S8x96x96 .f32)
  (W₁ : FVec Ideal S96x96 .f32) (b₁ g₁ β₁ : FVec Ideal S96 .f32) (W₂ : FVec Ideal S96x96 .f32) (b₂ g₂ β₂ : FVec Ideal S96 .f32)
  (W₃ : FVec Ideal S96x96 .f32) (b₃ g₃ β₃ : FVec Ideal S96 .f32)
  (h : Cert.Pre_finite_without_bias.fn (F := Ideal) x A W₁ b₁ g₁ β₁ W₂ b₂ g₂ β₂ W₃ b₃ g₃ β₃ = fun _ => 1#1)

include h

/-- The first result: one layer. -/
theorem out₁_eq : layerArr x A W₁ b₁ g₁ β₁ = out₁ x A W₁ g₁ := by
  obtain ⟨hx, hA, ⟨h₁, hs₁, hb₁, hβ₁⟩, ⟨h₂, hs₂, hb₂, hβ₂⟩, h₃, hs₃, hb₃, hβ₃⟩ :=
    Cert.Pre_finite_without_bias.Read.read x A W₁ b₁ g₁ β₁ W₂ b₂ g₂ β₂ W₃ b₃ g₃ β₃ h
  funext j
  idx_vars j
  refine (layerArr_at _ _ _ _ _ _ _ _ _ _).trans ?_
  exact congrFun (layer₁_eq (hx _ _ _) h₁ hs₁ hb₁ hβ₁) _

/-- The second result: two layers. -/
theorem out₂_eq : layerArr (layerArr x A W₁ b₁ g₁ β₁) A W₂ b₂ g₂ β₂ = out₂ x A W₁ g₁ W₂ g₂ := by
  obtain ⟨hx, hA, ⟨h₁, hs₁, hb₁, hβ₁⟩, ⟨h₂, hs₂, hb₂, hβ₂⟩, h₃, hs₃, hb₃, hβ₃⟩ :=
    Cert.Pre_finite_without_bias.Read.read x A W₁ b₁ g₁ β₁ W₂ b₂ g₂ β₂ W₃ b₃ g₃ β₃ h
  funext j
  idx_vars j
  refine (layerArr_at _ _ _ _ _ _ _ _ _ _).trans ?_
  rw [pix_layerArr]
  exact congrFun (layer₂_eq (hx _ _ _) (hA _) h₁ hs₁ hb₁ hβ₁ h₂ hs₂ hb₂ hβ₂) _

/-- The third result: three layers. -/
theorem out₃_eq : layerArr (layerArr (layerArr x A W₁ b₁ g₁ β₁) A W₂ b₂ g₂ β₂) A W₃ b₃ g₃ β₃ = out₃ x A W₁ g₁ W₂ g₂ W₃ g₃ := by
  obtain ⟨hx, hA, ⟨h₁, hs₁, hb₁, hβ₁⟩, ⟨h₂, hs₂, hb₂, hβ₂⟩, h₃, hs₃, hb₃, hβ₃⟩ :=
    Cert.Pre_finite_without_bias.Read.read x A W₁ b₁ g₁ β₁ W₂ b₂ g₂ β₂ W₃ b₃ g₃ β₃ h
  funext j
  idx_vars j
  refine (layerArr_at _ _ _ _ _ _ _ _ _ _).trans ?_
  rw [pix_layerArr, pix_layerArr]
  exact congrFun (layer₃_eq (hx _ _ _) (hA _) h₁ hs₁ hb₁ hβ₁ h₂ hs₂ hb₂ hβ₂ h₃ hs₃ hb₃ hβ₃) _

omit h

variable (m : (ℓ : Loc nD τ sig) → Buf (Elt Ideal) ℓ) (hm : Cert.Pre_KernelIdeal_finite_without_bias m) (c : Dev nD)

include hm

/-- One layer of the kernel's arguments, and what its first result array holds after the run. -/
theorem result₁ : layerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = (Gen.dats m 0 c).arrAt 5 (cfgs 0).N :=
  (out₁_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (hm c)).trans (final₁ m c).symm

/-- Two layers of the kernel's arguments, and what its second result array holds after the run. -/
theorem result₂ : layerArr (layerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))
    = (Gen.dats m 0 c).arrAt 6 (cfgs 0).N :=
  (out₂_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (hm c)).trans (final₂ m c).symm

/-- Three layers of the kernel's arguments, and what its third result array holds after the run. -/
theorem result₃ : layerArr (layerArr (layerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))) (m ((c : Thread nD τ).loc main_arg1)) (m ((c : Thread nD τ).loc main_arg10)) (m ((c : Thread nD τ).loc main_arg11)) (m ((c : Thread nD τ).loc main_arg12)) (m ((c : Thread nD τ).loc main_arg13))
    = (Gen.dats m 0 c).arrAt 7 (cfgs 0).N :=
  (out₃_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (hm c)).trans (final₃ m c).symm

end Cert.Equation

end

end
-- ==== Proof.lean ====
/-
  The proof of `Cert.Claim`. The runs of the two programs and their frames are generated; the kernel's three result
  arrays, the reference's three terms and the equation between them are in the modules imported here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite_without_bias
public import proofs.«01_k».proof.Proof.Gen.ReferenceIdeal
public import proofs.«01_k».proof.Proof.Algebra
public import proofs.«01_k».proof.Proof.Views
public import proofs.«01_k».proof.Proof.Block
public import proofs.«01_k».proof.Proof.Arrays
public import proofs.«01_k».proof.Proof.Reference
public import proofs.«01_k».proof.Proof.Finite
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

set_option maxHeartbeats 1000000 in
/-- Under the precondition the kernel's three results are the reference's three results. -/
theorem algebraic : Cert.algebraic_KernelIdeal_ReferenceIdeal_pre_finite_without_bias := by
  pair_intro
  · run_from Cert.KernelIdeal.Gen.run_main m g
  · run_from Cert.ReferenceIdeal.Net.run m' g'
    · exact Cert.Equation.result₁ m hpre c
    · exact Cert.Equation.result₂ m hpre c
    · exact Cert.Equation.result₃ m hpre c

theorem claim : Cert.Claim :=
  ⟨Cert.Kernel.Gen.facts, Cert.KernelIdeal.Gen.facts, Cert.ReferenceIdeal.Gen.facts, Cert.Pre_finite_without_bias.Gen.facts,
    fun m ρ _ => Cert.Kernel.Gen.frame m ρ, fun m ρ _ => Cert.KernelIdeal.Gen.frame m ρ,
    fun m ρ _ => Cert.KernelIdeal.Gen.frame m ρ, Cert.ReferenceIdeal.Net.frame, fun m ρ _ => Cert.ReferenceIdeal.Net.frame m ρ trivial,
    trivial, algebraic⟩

end Cert.Proof

end
